-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x576x64 : Shape := ⟨3, ![16, 576, 64]⟩
abbrev S1024x64 : Shape := ⟨2, ![1024, 64]⟩
abbrev S9216x64 : Shape := ⟨2, ![9216, 64]⟩
abbrev S64x9216 : Shape := ⟨2, ![64, 9216]⟩
abbrev S_ : Shape := ⟨0, ![]⟩
abbrev S9216 : Shape := ⟨1, ![9216]⟩
abbrev S9216x1 : Shape := ⟨2, ![9216, 1]⟩
abbrev S1024 : Shape := ⟨1, ![1024]⟩
abbrev S18x1x512 : Shape := ⟨3, ![18, 1, 512]⟩
abbrev S1024x1 : Shape := ⟨2, ![1024, 1]⟩
abbrev S64x512 : Shape := ⟨2, ![64, 512]⟩
abbrev S1x1x512 : Shape := ⟨3, ![1, 1, 512]⟩
abbrev S1024x512 : Shape := ⟨2, ![1024, 512]⟩
abbrev S1x512 : Shape := ⟨2, ![1, 512]⟩
abbrev S512 : Shape := ⟨1, ![512]⟩
abbrev S16x576 : Shape := ⟨2, ![16, 576]⟩

abbrev nBuf : Space → Nat
  | .hbm => 15
  | .vmem => 8
  | .smem => 0
  | _ => 0

abbrev bufTy : (tb : Table) → Fin (tcTables nBuf tb) → BufTy
  | .hbm, ⟨0, _⟩ => ⟨S16x576x64, .f32⟩
  | .hbm, ⟨1, _⟩ => ⟨S1024x64, .f32⟩
  | .hbm, ⟨2, _⟩ => ⟨S9216x64, .f32⟩
  | .hbm, ⟨3, _⟩ => ⟨S64x9216, .f32⟩
  | .hbm, ⟨4, _⟩ => ⟨S9216x64, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S18x1x512, .f32⟩
  | .hbm, ⟨12, _⟩ => ⟨S1024x1, .f32⟩
  | .hbm, ⟨13, _⟩ => ⟨S18x1x512, .i32⟩
  | .hbm, ⟨14, _⟩ => ⟨S16x576, .i32⟩
  | .local _ .vmem, ⟨0, _⟩ => ⟨S64x512, .f32⟩
  | .local _ .vmem, ⟨1, _⟩ => ⟨S64x512, .f32⟩
  | .local _ .vmem, ⟨2, _⟩ => ⟨S1024x64, .f32⟩
  | .local _ .vmem, ⟨3, _⟩ => ⟨S1x1x512, .f32⟩
  | .local _ .vmem, ⟨4, _⟩ => ⟨S1x1x512, .f32⟩
  | .local _ .vmem, ⟨5, _⟩ => ⟨S1024x1, .f32⟩
  | .local _ .vmem, ⟨6, _⟩ => ⟨S1x1x512, .i32⟩
  | .local _ .vmem, ⟨7, _⟩ => ⟨S1x1x512, .i32⟩
  | _, _ => ⟨S16x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x576x64 : Shape := ⟨3, ![16, 576, 64]⟩
abbrev S1024x64 : Shape := ⟨2, ![1024, 64]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S1024 : Shape := ⟨1, ![1024]⟩
abbrev S64x1024 : Shape := ⟨2, ![64, 1024]⟩
abbrev S9216x1024 : Shape := ⟨2, ![9216, 1024]⟩
abbrev S1x1024 : Shape := ⟨2, ![1, 1024]⟩
abbrev S16x576 : Shape := ⟨2, ![16, 576]⟩

abbrev nBuf : Space → Nat
  | .hbm => 26
  | .vmem => 0
  | .smem => 0
  | _ => 0

abbrev bufTy : (tb : Table) → Fin (tcTables nBuf tb) → BufTy
  | .hbm, ⟨0, _⟩ => ⟨S16x576x64, .f32⟩
  | .hbm, ⟨1, _⟩ => ⟨S1024x64, .f32⟩
  | .hbm, ⟨2, _⟩ => ⟨S9216x64, .f32⟩
  | .hbm, ⟨3, _⟩ => ⟨S9216x64, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S64x1024, .f32⟩
  | .hbm, ⟨11, _⟩ => ⟨S9216x1024, .f32⟩
  | .hbm, ⟨12, _⟩ => ⟨S_, .f32⟩
  | .hbm, ⟨13, _⟩ => ⟨S9216x1024, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S1x1024, .f32⟩
  | .hbm, ⟨18, _⟩ => ⟨S9216x1024, .f32⟩
  | .hbm, ⟨19, _⟩ => ⟨S9216x1024, .f32⟩
  | .hbm, ⟨20, _⟩ => ⟨S9216x1024, .i32⟩
  | .hbm, ⟨21, _⟩ => ⟨S_, .f32⟩
  | .hbm, ⟨22, _⟩ => ⟨S_, .i32⟩
  | .hbm, ⟨23, _⟩ => ⟨S9216, .f32⟩
  | .hbm, ⟨24, _⟩ => ⟨S9216, .i32⟩
  | .hbm, ⟨25, _⟩ => ⟨S16x576, .i32⟩
  | _, _ => ⟨S16x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.FirstMin.lean ====
/-
  The first index at which a finite family of values takes its minimum, as a 32-bit word, and the
  two ways of computing it that the proof compares: two passes (the minimum, then the least index
  whose value equals it), and one pass that keeps a running pair of a value and its index.
-/
module

public import Idealize.ShloMosaic.PureOps.Ideal.Laws

@[expose] public section

namespace Cert.FirstMin

open Idealize.ShloMosaic

/-- The word `b` names the first index at which `x` takes its minimum. -/
def IsFirstMin {n : ℕ} (x : Fin n → EReal) (b : BitVec 32) : Prop :=
  ∃ k : Fin n, b = BitVec.ofNat 32 k.val ∧ (∀ l, x k ≤ x l) ∧ ∀ l, x l = x k → k ≤ l

/-- At most one word names the first index of the minimum. -/
theorem IsFirstMin.unique {n : ℕ} {x : Fin n → EReal} {b b' : BitVec 32} (h : IsFirstMin x b)
    (h' : IsFirstMin x b') : b = b' := by
  obtain ⟨k, rfl, hk, hk'⟩ := h
  obtain ⟨l, rfl, hl, hl'⟩ := h'
  have e : x k = x l := le_antisymm (hk l) (hl k)
  rw [le_antisymm (hk' l e.symm) (hl' k e)]

/-- A number below 2^31 read back from its word is itself. -/
theorem toInt_ofNat_small {k : ℕ} (hk : k < 2 ^ 31) : (BitVec.ofNat 32 k).toInt = (k : ℤ) := by
  rw [BitVec.toInt_eq_toNat_of_lt] <;> rw [BitVec.toNat_ofNat, Nat.mod_eq_of_lt (by omega)]
  omega

/-- The signed minimum of two words has the smaller of their signed values. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-! ### Two passes -/

/-- The minimum of a nonempty finite family, folded from `⊤`, is taken at some index and is below
every value. -/
theorem fold_min_attained {n : ℕ} (hn : 0 < n) (x : Fin n → EReal) :
    ∃ k, x k = Finset.univ.fold min ⊤ x ∧ ∀ l, x k ≤ x l := by
  haveI : Nonempty (Fin n) := ⟨⟨0, hn⟩⟩
  obtain ⟨k, hk⟩ := Finite.exists_min x
  refine ⟨k, le_antisymm ?_ ?_, hk⟩
  · exact (Finset.le_fold_min _).2 ⟨le_top, fun l _ => hk l⟩
  · exact (Finset.fold_min_le _).2 (Or.inr ⟨k, Finset.mem_univ _, le_rfl⟩)

/-- The first index at which `x` takes its minimum, by two passes: the minimum, and then the signed
minimum, from the largest word, of the indices where the value is the minimum (the word of `n`
elsewhere). -/
noncomputable def firstMin {n : ℕ} (x : Fin n → EReal) : BitVec 32 :=
  Finset.univ.fold IntOp.minsi 2147483647#32 fun k : Fin n =>
    if x k = Finset.univ.fold min ⊤ x then BitVec.ofNat 32 k.val else BitVec.ofNat 32 n

/-- Two passes compute the first index of the minimum. -/
theorem isFirstMin_firstMin {n : ℕ} (hn : 0 < n) (hn' : n < 2 ^ 31) (x : Fin n → EReal) :
    IsFirstMin x (firstMin x) := by
  have hd : (n : ℤ) ≤ (2147483647#32 : BitVec 32).toInt := by
    rw [show (2147483647#32 : BitVec 32).toInt = 2147483647 from rfl]; omega
  have hf : (n : ℤ) ≤ (BitVec.ofNat 32 n).toInt := (toInt_ofNat_small hn').ge
  unfold firstMin
  obtain ⟨k₀, hk₀, hmin⟩ := fold_min_attained hn x
  rw [← hk₀]
  have hne : (Finset.univ.filter fun k => x k = x k₀).Nonempty := ⟨k₀, by simp⟩
  obtain ⟨k, hkm, hkl⟩ := Finset.exists_min_image _ (fun k : Fin n => k) hne
  have hk : x k = x k₀ := (Finset.mem_filter.1 hkm).2
  have hfirst : ∀ l, x l = x k₀ → k ≤ l := fun l hl => hkl l (by simp [hl])
  refine ⟨k, ?_, fun l => hk ▸ hmin l, fun l hl => hfirst l (hl.trans hk)⟩
  apply BitVec.eq_of_toInt_eq
  rw [← Finset.fold_hom (op' := min) (m := BitVec.toInt) toInt_minsi]
  have hkn := k.isLt
  rw [toInt_ofNat_small (k := k.val) (by omega)]
  apply le_antisymm
  · refine (Finset.fold_min_le _).2 (Or.inr ⟨k, Finset.mem_univ _, ?_⟩)
    rw [if_pos hk, toInt_ofNat_small (k := k.val) (by omega)]
  · refine (Finset.le_fold_min _).2 ⟨by omega, fun l _ => ?_⟩
    split
    · next h =>
      have := hfirst l h
      have hln := l.isLt
      rw [toInt_ofNat_small (k := l.val) (by omega)]
      exact_mod_cast this
    · omega

/-! ### One pass over pairs -/

/-- The order of pairs: by value, and by signed index among equal values. -/
def PairLe (a b : EReal × BitVec 32) : Prop :=
  a.1 < b.1 ∨ a.1 = b.1 ∧ a.2.toInt ≤ b.2.toInt

/-- A pair is below itself. -/
theorem PairLe.refl (a : EReal × BitVec 32) : PairLe a a := Or.inr ⟨rfl, le_rfl⟩

/-- The order of pairs is transitive. -/
theorem PairLe.trans {a b c : EReal × BitVec 32} (h : PairLe a b) (h' : PairLe b c) : PairLe a c := by
  rcases h with h | ⟨h, h2⟩ <;> rcases h' with h' | ⟨h', h2'⟩
  · exact Or.inl (h.trans h')
  · exact Or.inl (h' ▸ h)
  · exact Or.inl (h ▸ h')
  · exact Or.inr ⟨h.trans h', h2.trans h2'⟩

/-- `f` picks, of two pairs, one that is below both. -/
def PicksLess (f : EReal × BitVec 32 → EReal × BitVec 32 → EReal × BitVec 32) : Prop :=
  ∀ a b, (f a b = a ∨ f a b = b) ∧ PairLe (f a b) a ∧ PairLe (f a b) b

/-- A left fold of such a pick returns one of the pairs it has seen, below all of them. -/
theorem PicksLess.foldl {f : EReal × BitVec 32 → EReal × BitVec 32 → EReal × BitVec 32}
    (hf : PicksLess f) (l : List (EReal × BitVec 32)) (a : EReal × BitVec 32) :
    (l.foldl f a = a ∨ l.foldl f a ∈ l) ∧ PairLe (l.foldl f a) a ∧ ∀ p ∈ l, PairLe (l.foldl f a) p := by
  induction l generalizing a with
  | nil => exact ⟨Or.inl rfl, PairLe.refl a, by simp⟩
  | cons b l ih =>
    obtain ⟨h1, h2, h3⟩ := ih (f a b)
    obtain ⟨g1, g2, g3⟩ := hf a b
    rw [List.foldl_cons]
    refine ⟨?_, h2.trans g2, fun p hp => ?_⟩
    · rcases h1 with h1 | h1
      · rcases g1 with g1 | g1
        · exact Or.inl (h1.trans g1)
        · exact Or.inr (by rw [h1, g1]; simp)
      · exact Or.inr (List.mem_cons_of_mem _ h1)
    · rcases List.mem_cons.1 hp with rfl | hp
      · exact h2.trans g3
      · exact h3 p hp

/-- One pass computes the first index of the minimum: fold such a pick from `(⊤, 0)` over a list
whose members are exactly the pairs of a value and its index. -/
theorem one_pass {n : ℕ} (hn : 0 < n) (hn' : n < 2 ^ 31) (x : Fin n → EReal)
    {f : EReal × BitVec 32 → EReal × BitVec 32 → EReal × BitVec 32} (hf : PicksLess f)
    (l : List (EReal × BitVec 32)) (hl : ∀ p, p ∈ l ↔ ∃ k : Fin n, p = (x k, BitVec.ofNat 32 k.val)) :
    IsFirstMin x (l.foldl f (⊤, 0#32)).2 := by
  obtain ⟨h1, -, h3⟩ := hf.foldl l (⊤, 0#32)
  have key : ∃ k : Fin n, (l.foldl f (⊤, 0#32)) = (x k, BitVec.ofNat 32 k.val) := by
    rcases h1 with h1 | h1
    · refine ⟨⟨0, hn⟩, ?_⟩
      have := h3 _ ((hl _).2 ⟨⟨0, hn⟩, rfl⟩)
      rw [h1] at this ⊢
      rcases this with h | ⟨h, -⟩
      · exact absurd h not_top_lt
      · exact Prod.ext h rfl
    · exact (hl _).1 h1
  obtain ⟨k, hk⟩ := key
  have hle : ∀ i : Fin n, PairLe (x k, BitVec.ofNat 32 k.val) (x i, BitVec.ofNat 32 i.val) :=
    fun i => hk ▸ h3 _ ((hl _).2 ⟨i, rfl⟩)
  refine ⟨k, by rw [hk], fun i => ?_, fun i hi => ?_⟩
  · rcases hle i with h | ⟨h, -⟩
    · exact h.le
    · exact h.le
  · rcases hle i with h | ⟨-, h⟩
    · exact absurd h (by simp [hi])
    · have hkn := k.isLt
      have hin := i.isLt
      simp only [toInt_ofNat_small (show k.val < 2 ^ 31 by omega),
        toInt_ofNat_small (show i.val < 2 ^ 31 by omega)] at h
      exact_mod_cast h

/-- The pairs an index-carrying reduction over one axis meets at an output index are exactly those
at the positions over that axis. -/
theorem mem_fiber {s t : Shape} {a : Fin s.rank} {α β : Type} (x : s.Idx → α) (y : s.Idx → β)
    (h' : s.ReducesTo [a] t) (h : s.Reduces [a] t) (j : t.Idx) (p : α × β) :
    p ∈ Host.argReduceFiber x y h' j ↔ ∃ k : Fin (s.size a), p = (x (h.lift j k), y (h.lift j k)) := by
  have e : ∀ i, h'.drop i = h.drop i := fun i => congrFun (Shape.ReducesTo.drop_eq_drop h' h) i
  simp only [Host.argReduceFiber, List.mem_map, List.mem_filter, List.mem_finRange, true_and, decide_eq_true_eq]
  constructor
  · rintro ⟨n, hn, rfl⟩
    have hi : h.lift j (s.rowMajor.symm n a) = s.rowMajor.symm n := by
      rw [← (e _).symm.trans hn, h.lift_drop]
    exact ⟨s.rowMajor.symm n a, by rw [hi]⟩
  · rintro ⟨k, rfl⟩
    refine ⟨s.rowMajor (h.lift j k), ?_, ?_⟩
    · rw [Equiv.symm_apply_apply]; exact (e _).trans (h.drop_lift j k)
    · rw [Equiv.symm_apply_apply]

end Cert.FirstMin

end
-- ==== Proof.Nearest.lean ====
/-
  The function both programs compute, in plain words: for each of 9216 tokens (rows of 64 numbers),
  the first of 1024 codes at the least squared distance from it, the distance taken in its expanded
  form |x|² − 2 x·c + |c|².
-/
module

public import proofs.«01_k».proof.Proof.FirstMin
public import Idealize.ShloMosaic.Lib.Pointwise

@[expose] public section

noncomputable section

namespace Cert.Nearest

open Idealize.ShloMosaic

/-- The expanded squared distance between token `n` (a row of `X`) and code `k` (a row of `C`). -/
def dist (X : FVec Ideal ⟨2, ![9216, 64]⟩ .f32) (C : FVec Ideal ⟨2, ![1024, 64]⟩ .f32) (n : Fin 9216) (k : Fin 1024) :
    EReal :=
  (∑ d : Fin 64, X (ix2 n d) * X (ix2 n d)) - 2 * (∑ d : Fin 64, X (ix2 n d) * C (ix2 k d))
    + ∑ d : Fin 64, C (ix2 k d) * C (ix2 k d)

/-- The first code at the least distance from token `n`, as a 32-bit word. -/
def nearest (X : FVec Ideal ⟨2, ![9216, 64]⟩ .f32) (C : FVec Ideal ⟨2, ![1024, 64]⟩ .f32) (n : Fin 9216) : BitVec 32 :=
  FirstMin.firstMin (dist X C n)

/-- `nearest` is the only word that names the first code at the least distance. -/
theorem eq_nearest {X : FVec Ideal ⟨2, ![9216, 64]⟩ .f32} {C : FVec Ideal ⟨2, ![1024, 64]⟩ .f32} {n : Fin 9216} {b : BitVec 32}
    (h : FirstMin.IsFirstMin (dist X C n) b) : b = nearest X C n :=
  h.unique (FirstMin.isFirstMin_firstMin (by decide) (by decide) _)

/-- The binary32 word of +∞ is the top of the extended reals. -/
theorem ofBits_inf : Ideal.ofBits .f32 0x7F800000#32 = ⊤ := by simp [Ideal.ofBits, Ideal.ieee]

/-- The binary32 word of 2.0 is the number two. -/
theorem ofBits_two : Ideal.ofBits .f32 1073741824#32 = 2 := by
  rw [show (2 : EReal) = ((2 : ℝ) : EReal) by norm_cast]
  simp [Ideal.ofBits, Ideal.ieee, -EReal.coe_mul]
  norm_num

end Cert.Nearest

end
-- ==== Proof.Block.lean ====
/-
  What one grid point of the kernel computes: from a block of 512 tokens (stored by columns), all the
  codes, the tokens' squared norms and the codes' squared norms, the first nearest code of each token.
-/
module

public import proofs.«01_k».proof.Proof.Nearest
public import proofs.«01_k».proof.Proof.Gen.KernelIdeal.Skeleton

@[expose] public section

set_option maxRecDepth 16384

noncomputable section

namespace Cert.KernelIdeal.Block

open Idealize.ShloMosaic
open Cert.KernelIdeal Cert.KernelIdeal.Gen Cert.FirstMin

/-- The stored block at token `n` of the block is the first code of least distance, the distance being
the token's squared norm less twice the product of the code and the token, plus the code's squared norm. -/
theorem pay_apply (x0 : FVec Ideal S64x512 .f32) (x1 : FVec Ideal S1024x64 .f32) (x2 : FVec Ideal S1x1x512 .f32)
    (x3 : FVec Ideal S1024x1 .f32) (n : Fin 512) :
    k0_pay1 (F := Ideal) x0 x1 x2 x3 (ix3 0 0 n)
      = firstMin fun k : Fin 1024 =>
          x2 (ix3 0 0 n) - 2 * (∑ d : Fin 64, x1 (ix2 k d) * x0 (ix2 d n)) + x3 (ix2 k 0) := by
  pointwise [k0_pay1]
  simp only [Nearest.ofBits_two, Nearest.ofBits_inf]
  rfl

end Cert.KernelIdeal.Block

end
-- ==== Proof.Result.lean ====
/-
  What the kernel's program leaves in its result: the array the region writes, block by block, and the
  run read at the result after the final reshape.
-/
module

public import proofs.«01_k».proof.Proof.Block
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The tokens of device `c`: its first argument as 9216 rows. -/
def tokens (c : Dev nD) : FVec Ideal S9216x64 .f32 :=
  shapeCast S9216x64 (m ((c : Thread nD τ).loc main_arg0)) shapeCasts_S16x576x64_S9216x64

/-- The codes of device `c`: its second argument. -/
def codes (c : Dev nD) : FVec Ideal S1024x64 .f32 := m ((c : Thread nD τ).loc main_arg1)

/-- The array the region writes: at block `i 0` and position `i 2`, the first nearest code of that token. -/
def written (c : Dev nD) : IVec S18x1x512 32 := fun i =>
  Nearest.nearest (tokens m c) (codes m c)
    ⟨512 * (i 0 : ℕ) + (i 2 : ℕ), by
      have h0 : (i 0 : ℕ) < 18 := (i 0).isLt
      have h2 : (i 2 : ℕ) < 512 := (i 2).isLt
      omega⟩

/-- The block indices of the five windows at point `t`. -/
theorem idx : ∀ t : Fin cfg0.N, win0_0.index t = ![0, t.val] ∧ win0_1.index t = ![0, 0] ∧ win0_2.index t = ![t.val, 0, 0]
    ∧ win0_3.index t = ![0, 0] ∧ win0_4.index t = ![t.val, 0, 0] :=
  (by decide +kernel : ∀ t : Fin grid0.N, _)

/-! ### The arrays when the region starts -/

/-- The tokens stored by columns. -/
theorem V_v1 (c : Dev nD) : V m c main_v1 = transpose S64x9216 [1, 0] (tokens m c) transposes_S9216x64_S64x9216_1_0 := by
  simp only [V, V0, hostOps0, List.flatten_cons, List.flatten_nil, List.append_nil]
  after_results
  rfl

/-- The tokens' squared norms, in 18 blocks of 512. -/
theorem V_v7 (c : Dev nD) : V m c main_v7
    = shapeCast S18x1x512 (broadcastInDim S9216x1 ![0] bcast_S9216_S9216x1_0
        (Host.reduceAdd (mulf (tokens m c) (tokens m c)) (constant S_ .f32 0#32) reducesTo_S9216x64_S9216_d1 h_S_))
        shapeCasts_S9216x1_S18x1x512 := by
  simp only [V, V0, hostOps0, List.flatten_cons, List.flatten_nil, List.append_nil]
  after_results
  rfl

/-- The codes' squared norms, as a column. -/
theorem V_v8 (c : Dev nD) : V m c main_v8
    = shapeCast S1024x1
        (Host.reduceAdd (mulf (codes m c) (codes m c)) (constant S_ .f32 0#32) reducesTo_S1024x64_S1024_d1 h_S_)
        shapeCasts_S1024_S1024x1 := by
  simp only [V, V0, hostOps0, List.flatten_cons, List.flatten_nil, List.append_nil]
  after_results
  rfl

/-! ### The blocks at a point -/

/-- Entry `(d, n)` of window 0's block at point `t` is entry `(d, 512 t + n)` of its array. -/
theorem emb0 (t : Fin cfg0.N) (d : Fin 64) (n : Fin 512) (h : 512 * t.val + n.val < 9216) :
    ((cfg0.win 0).blk t).view.emb (ix2 d n) = ix2 d ⟨512 * t.val + n.val, h⟩ := by
  blk_ext [idx t]

/-- Window 1's block is its whole array at every point. -/
theorem emb1 (t : Fin cfg0.N) (k : Fin 1024) (d : Fin 64) :
    ((cfg0.win 1).blk t).view.emb (ix2 k d) = ix2 k d := by
  blk_ext [idx t]

/-- Position `n` of window 2's block at point `t` is position `n` of block `t` of its array. -/
theorem emb2 (t : Fin cfg0.N) (n : Fin 512) (h : t.val < 18) :
    ((cfg0.win 2).blk t).view.emb (ix3 0 0 n) = ix3 ⟨t.val, h⟩ 0 n := by
  blk_ext [idx t]

/-- Window 3's block is its whole array at every point. -/
theorem emb3 (t : Fin cfg0.N) (k : Fin 1024) :
    ((cfg0.win 3).blk t).view.emb (ix2 k 0) = ix2 k 0 := by
  blk_ext [idx t]

/-- Position `n` of the output block at point `t` is position `n` of block `t` of the output array. -/
theorem emb4 (t : Fin cfg0.N) (n : Fin 512) (h : t.val < 18) :
    ((cfg0.win 4).blk t).view.emb (ix3 0 0 n) = ix3 ⟨t.val, h⟩ 0 n := by
  blk_ext [idx t]

/-- Window 0's block at point `t` holds tokens `512 t`, …, `512 t + 511` by columns. -/
theorem x_at (c : Dev nD) (t : Fin cfg0.N) (d : Fin 64) (n : Fin 512) (h : 512 * t.val + n.val < 9216) :
    iblk m c 0 t (ix2 d n) = tokens m c (ix2 ⟨512 * t.val + n.val, h⟩ d) := by
  show V m c main_v1 (((cfg0.win 0).blk t).view.emb (ix2 d n)) = _
  rw [emb0 t d n h, V_v1]
  pointwise

/-- Window 1's block holds the codes. -/
theorem c_at (c : Dev nD) (t : Fin cfg0.N) (k : Fin 1024) (d : Fin 64) :
    iblk m c 1 t (ix2 k d) = codes m c (ix2 k d) := by
  show V m c main_arg1 (((cfg0.win 1).blk t).view.emb (ix2 k d)) = _
  rw [emb1, V_main_arg1]
  rfl

/-- The squared norms of 9216 rows laid out as 18 blocks of 512, read at block `t` and position `n`. -/
theorem xsq_pure (X : FVec Ideal S9216x64 .f32) (t : Fin 18) (n : Fin 512) :
    shapeCast S18x1x512 (broadcastInDim S9216x1 ![0] bcast_S9216_S9216x1_0
        (Host.reduceAdd (mulf X X) (constant S_ .f32 0#32) reducesTo_S9216x64_S9216_d1 h_S_))
        shapeCasts_S9216x1_S18x1x512 (ix3 t 0 n)
      = ∑ d : Fin 64, X (ix2 ⟨512 * t.val + n.val, by omega⟩ d) * X (ix2 ⟨512 * t.val + n.val, by omega⟩ d) := by
  pointwise
  simp only [Nat.mul_comm]

/-- Window 2's block at point `t` holds the squared norms of tokens `512 t`, …, `512 t + 511`. -/
theorem xsq_at (c : Dev nD) (t : Fin cfg0.N) (n : Fin 512) (h : 512 * t.val + n.val < 9216) :
    iblk m c 2 t (ix3 0 0 n)
      = ∑ d : Fin 64, tokens m c (ix2 ⟨512 * t.val + n.val, h⟩ d) * tokens m c (ix2 ⟨512 * t.val + n.val, h⟩ d) := by
  have ht : t.val < 18 := lt_of_lt_of_eq t.isLt N_0
  show V m c main_v7 (((cfg0.win 2).blk t).view.emb (ix3 0 0 n)) = _
  rw [emb2 t n ht, V_v7]
  exact xsq_pure (tokens m c) ⟨t.val, ht⟩ n

/-- Window 3's block holds the codes' squared norms. -/
theorem csq_at (c : Dev nD) (t : Fin cfg0.N) (k : Fin 1024) :
    iblk m c 3 t (ix2 k 0) = ∑ d : Fin 64, codes m c (ix2 k d) * codes m c (ix2 k d) := by
  show V m c main_v8 (((cfg0.win 3).blk t).view.emb (ix2 k 0)) = _
  rw [emb3, V_v8]
  pointwise

/-- What point `t` stores at position `n` of its block is the first nearest code of token `512 t + n`. -/
theorem point (c : Dev nD) (t : Fin cfg0.N) (n : Fin 512) (h : 512 * t.val + n.val < 9216) :
    k0_pay1 (iblk m c 0 t) (iblk m c 1 t) (iblk m c 2 t) (iblk m c 3 t) (ix3 0 0 n)
      = Nearest.nearest (tokens m c) (codes m c) ⟨512 * t.val + n.val, h⟩ := by
  rw [Block.pay_apply]
  unfold Nearest.nearest
  congr 1
  funext k
  rw [xsq_at m c t n h, csq_at m c t k]
  unfold Nearest.dist
  congr 3
  refine Finset.sum_congr rfl fun d _ => ?_
  rw [x_at m c t d n h, c_at m c t k d, mul_comm]

/-- After the last point the output array holds, at every block and position, the first nearest code. -/
theorem final4 (c : Dev nD) : (dats m 0 c).arrAt 4 cfg0.N = written m c := by
  refine (dats m 0 c).arrAt_eq_of_covers 4 _ (by decide +kernel) fun t _ y => ?_
  have ht : t.val < 18 := lt_of_lt_of_eq t.isLt N_0
  blk_simp
  rw [after0_4]
  frame_out
  obtain ⟨n, rfl⟩ : ∃ n : Fin 512, y = (ix3 0 0 n : S1x1x512.Idx) := by
    refine ⟨y 2, funext fun a => ?_⟩
    match a with
    | ⟨0, _⟩ => exact Subsingleton.elim (α := Fin 1) _ _
    | ⟨1, _⟩ => exact Subsingleton.elim (α := Fin 1) _ _
    | ⟨2, _⟩ => rfl
  have hp := point m c t n (by omega)
  refine hp.trans ?_
  exact (congrArg (written m c) (emb4 t n ht)).symm

/-- The result: at position `(b, h)` of the 16 × 576 grid, the first nearest code of token `576 b + h`. -/
def result (c : Dev nD) : IVec S16x576 32 := fun i =>
  Nearest.nearest (tokens m c) (codes m c)
    ⟨576 * (i 0 : ℕ) + (i 1 : ℕ), by
      have h0 : (i 0 : ℕ) < 16 := (i 0).isLt
      have h1 : (i 1 : ℕ) < 576 := (i 1).isLt
      omega⟩

/-- Reading 18 blocks of 512 as 16 rows of 576 keeps the position in row-major order. -/
theorem reshape_apply (A : IVec S18x1x512 32) (b : Fin 16) (h : Fin 576) :
    shapeCast S16x576 A shapeCasts_S18x1x512_S16x576 (ix2 b h)
      = A (ix3 ⟨(576 * b.val + h.val) / 512, by omega⟩ 0 ⟨(576 * b.val + h.val) % 512, by omega⟩) := by
  pointwise
  simp only [Nat.mul_comm]

/-- The array the region writes, reshaped, is the result. -/
theorem reshape_written (c : Dev nD) : shapeCast S16x576 (written m c) shapeCasts_S18x1x512_S16x576 = result m c := by
  funext i
  obtain ⟨b, h, rfl⟩ : ∃ (b : Fin 16) (h : Fin 576), i = ix2 b h := ⟨i 0, i 1, by
    funext a; match a with
    | ⟨0, _⟩ => rfl
    | ⟨1, _⟩ => rfl⟩
  rw [reshape_apply]
  refine congrArg (Nearest.nearest (tokens m c) (codes m c)) (Fin.ext ?_)
  exact Nat.div_add_mod (576 * b.val + h.val) 512

/-- The reshape after the region leaves the result in the program's second result buffer. -/
theorem read_v10 (c : Dev nD) :
    Pipeline.afterTail₀ cfgs (dats m) 0 (V0 m) [hostOps1] c main_v10 = result m c := by
  unfold Pipeline.afterTail₀
  simp only [hostOps1, List.flatten_cons, List.flatten_nil, List.append_nil, StableHlo.after_cons, StableHlo.after_nil]
  rw [StableHlo.reshape_result]
  have h := (Pipeline.withArrays_arr (τ := τ) spec0 (by decide) c (V0 m c) (fun w => (dats m 0 c).arrAt w cfg0.N) 4).trans
    (final4 m c)
  exact (congrArg (fun A => shapeCast S16x576 A shapeCasts_S18x1x512_S16x576) h).trans (reshape_written m c)

/-- The kernel's program runs, ends with `result` in its second result, and leaves the arguments alone. -/
theorem run : θ_run (defs (F := Ideal)) (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ
  · exact read_v10 m c
  · exact W_main_arg0 m _ c

end Cert.KernelIdeal.Result

end
-- ==== Proof.Reference.lean ====
/-
  What the reference computes: its table of distances at a token and a code, and its arg-min over the
  codes at a token.
-/
module

public import proofs.«01_k».proof.Proof.Nearest
public import proofs.«01_k».proof.Proof.Gen.ReferenceIdeal
public import Idealize.ShloMosaic.Lib.Claim

@[expose] public section

set_option maxRecDepth 16384

noncomputable section

namespace Cert.ReferenceIdeal.Read

open Idealize.ShloMosaic Idealize.ShloMosaic.TcCoe Idealize.SL.Sem
open Cert.ReferenceIdeal Cert.ReferenceIdeal.Gen Cert.FirstMin

/-- The reducer of the arg-min picks, of two pairs, one that is below both. -/
theorem picks : PicksLess (reducer_argmin_f32_i32 (F := Ideal)) := by
  rintro ⟨a1, a2⟩ ⟨b1, b2⟩
  simp only [reducer_argmin_f32_i32, Ideal.cmpf_def, Ideal.cmp, PairLe, IntOp.cmpi, BitVec.slt]
  rcases lt_trichotomy a1 b1 with h | rfl | h
  · simp [h, h.ne, IntOp.ori, IntOp.andi, Scalar.select]
  · by_cases h2 : a2.toInt < b2.toInt
    · simp [h2, h2.le, IntOp.ori, IntOp.andi, Scalar.select]
    · simp [h2, not_lt.1 h2, IntOp.ori, IntOp.andi, Scalar.select]
  · simp [h, h.not_gt, h.ne', IntOp.ori, IntOp.andi, Scalar.select]

/-- The arg-min over the second axis of a table is, at row `n`, the first index of that row's minimum. -/
theorem argmin_apply (D : FVec Ideal S9216x1024 .f32) (n : Fin 9216) :
    IsFirstMin (fun k : Fin 1024 => D (ix2 n k))
      (Host.argReduce (reducer_argmin_f32_i32 (F := Ideal)) D (iotaInDim S9216x1024 32 1) (constant S_ .f32 0x7F800000#32)
        (constantI S_ 32 0#32) reducesTo_S9216x1024_S9216_d1 h_S_ (ix1 n)).2 := by
  have hR : S9216x1024.Reduces [1] S9216 := by decide
  rw [Ideal.argReduce_eq_reduce2, Host.reduce2_eq_foldl_fiber]
  have e1 : (constant (F := Ideal) S_ .f32 0x7F800000#32) (Shape.Idx.first h_S_) = ⊤ := Nearest.ofBits_inf
  have e2 : (constantI S_ 32 0#32) (Shape.Idx.first h_S_) = 0#32 := rfl
  rw [e1, e2]
  refine one_pass (by decide) (by decide) _ picks _ fun p => ?_
  have hl : ∀ k : Fin 1024, hR.lift (ix1 n) k = ix2 n k := fun k => by
    funext a; match a with
    | ⟨0, _⟩ => rfl
    | ⟨1, _⟩ => rfl
  have hp : ∀ k : Fin 1024, (D (hR.lift (ix1 n) k), iotaInDim S9216x1024 32 1 (hR.lift (ix1 n) k))
      = (D (ix2 n k), BitVec.ofNat 32 k.val) := fun k => by rw [hl]; rfl
  refine (mem_fiber _ _ _ hR _ _).trans ⟨?_, ?_⟩
  · rintro ⟨k, rfl⟩; exact ⟨k, hp k⟩
  · rintro ⟨k, rfl⟩; exact ⟨k, (hp k).symm⟩

/-- The reference's table of distances, as its operations form it from the tokens `X` and the codes `C`. -/
def dists (X : FVec Ideal S9216x64 .f32) (C : FVec Ideal S1024x64 .f32) : FVec Ideal S9216x1024 .f32 :=
  addf
    (subf
      (broadcastInDim S9216x1024 ![0, 1] bcast_S9216x1_S9216x1024_0_1
        (broadcastInDim S9216x1 ![0] bcast_S9216_S9216x1_0
          (Host.reduceAdd (mulf X X) (constant S_ .f32 0#32) reducesTo_S9216x64_S9216_d1 h_S_)))
      (mulf
        (broadcastInDim S9216x1024 ![] bcast_S_S9216x1024 (constant S_ .f32 1073741824#32))
        (Host.dotGeneral dot_S9216x64_S64x1024_S9216x1024_1_0_0_1_n_n none X
          (transpose S64x1024 [1, 0] C transposes_S1024x64_S64x1024_1_0))))
    (broadcastInDim S9216x1024 ![0, 1] bcast_S1x1024_S9216x1024_0_1
      (broadcastInDim S1x1024 ![1] bcast_S1024_S1x1024_1
        (Host.reduceAdd (mulf C C) (constant S_ .f32 0#32) reducesTo_S1024x64_S1024_d1 h_S_)))

/-- The table at token `n` and code `k` is the expanded squared distance. -/
theorem dists_apply (X : FVec Ideal S9216x64 .f32) (C : FVec Ideal S1024x64 .f32) (n : Fin 9216) (k : Fin 1024) :
    dists X C (ix2 n k) = Nearest.dist X C n k := by
  pointwise [dists, Nearest.dist]
  rw [Nearest.ofBits_two]

/-- The reference's arg-min of its table is, at token `n`, the first nearest code. -/
theorem argmin_dists (X : FVec Ideal S9216x64 .f32) (C : FVec Ideal S1024x64 .f32) (n : Fin 9216) :
    (Host.argReduce (reducer_argmin_f32_i32 (F := Ideal)) (dists X C) (iotaInDim S9216x1024 32 1)
      (constant S_ .f32 0x7F800000#32) (constantI S_ 32 0#32) reducesTo_S9216x1024_S9216_d1 h_S_ (ix1 n)).2
      = Nearest.nearest X C n := by
  have h := argmin_apply (dists X C) n
  simp only [dists_apply] at h
  exact Nearest.eq_nearest h

/-- Reading 9216 entries as 16 rows of 576 keeps the position in row-major order. -/
theorem reshape_apply (A : IVec S9216 32) (b : Fin 16) (h : Fin 576) :
    shapeCast S16x576 A shapeCasts_S9216_S16x576 (ix2 b h) = A (ix1 ⟨576 * b.val + h.val, by omega⟩) := by
  pointwise
  simp only [Nat.mul_comm]

/-- The reference's second result, as its operations form it from its two arguments. -/
def out (x : FVec Ideal S16x576x64 .f32) (y : FVec Ideal S1024x64 .f32) : IVec S16x576 32 :=
  shapeCast S16x576 (fun j => (Host.argReduce (reducer_argmin_f32_i32 (F := Ideal))
      (dists (shapeCast S9216x64 x shapeCasts_S16x576x64_S9216x64) y) (iotaInDim S9216x1024 32 1)
      (constant S_ .f32 0x7F800000#32) (constantI S_ 32 0#32) reducesTo_S9216x1024_S9216_d1 h_S_ j).2)
    shapeCasts_S9216_S16x576

/-- The second result at `(b, h)` is the first nearest code of token `576 b + h`. -/
theorem out_apply (x : FVec Ideal S16x576x64 .f32) (y : FVec Ideal S1024x64 .f32) (b : Fin 16) (h : Fin 576) :
    out x y (ix2 b h)
      = Nearest.nearest (shapeCast S9216x64 x shapeCasts_S16x576x64_S9216x64) y ⟨576 * b.val + h.val, by omega⟩ := by
  unfold out
  rw [reshape_apply]
  exact argmin_dists _ _ _

/-- Handing the table of distances to the arg-min does not change it. -/
theorem ofBuf_v14 (h1 h2 h3) (v : FVec Ideal S9216x1024 .f32) :
    (StableHlo.TRef.of main_v14 h1 h2 h3 : StableHlo.TRef sig ⟨S9216x1024, .f32⟩).ofBuf (Val := Elt Ideal) v = v := rfl

/-- Nor does returning the arg-min's indices. -/
theorem toBuf_v15 (h1 h2 h3) (v : IVec S9216 32) :
    (StableHlo.TRef.of main_v15 h1 h2 h3 : StableHlo.TRef sig ⟨S9216, .i32⟩).toBuf (Val := Elt Ideal) v = v := rfl

/-- The last reshape, written at its buffer's own shape, is the reshape to 16 rows of 576. -/
theorem reshape_v16 (A : IVec S9216 32) (h : S9216.ShapeCasts main_v16.ty.shape) :
    (fun i => shapeCast main_v16.ty.shape A h i) = shapeCast S16x576 A shapeCasts_S9216_S16x576 := rfl

/-- The first reshape, written at its buffer's own shape, is the reshape to 9216 rows of 64. -/
theorem reshape_v0 (A : FVec Ideal S16x576x64 .f32) (h : S16x576x64.ShapeCasts main_v0.ty.shape) :
    (fun i => shapeCast main_v0.ty.shape A h i) = shapeCast S9216x64 A shapeCasts_S16x576x64_S9216x64 := rfl

/-- The reference runs, ends with `out` of its arguments in its second result, and leaves the arguments alone. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v16)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp only [StableHlo.TRef.ofBuf_toBuf]
  rw [ofBuf_v14, toBuf_v15]
  refine (reshape_v16 _ _).trans ?_
  rw [reshape_v0]
  unfold out dists
  rfl

end Cert.ReferenceIdeal.Read

end
-- ==== Proof.lean ====
/-
  The five claims about the nearest-code kernel, assembled: both programs run and leave their arguments
  alone, and at the ideal values the kernel's result (Proof/Result.lean) is the reference's
  (Proof/Reference.lean): for each token the first code at the least distance (Proof/Nearest.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Result
public import proofs.«01_k».proof.Proof.Reference
public import Idealize.ShloMosaic.Adequacy
public import Idealize.ShloMosaic.Init

@[expose] public section

set_option maxRecDepth 16384

noncomputable section

namespace Cert.Proof

open Idealize.ShloMosaic Idealize.SL.Sem

/-- The kernel runs, leaves its arguments alone, and ends with every semaphore counter at zero. -/
theorem frame_kernel : Cert.quiescent_Kernel := fun m ρ _ => Cert.Kernel.Gen.frame m ρ

/-- So does the kernel at the ideal values. -/
theorem frame_kernelIdeal : Cert.quiescent_KernelIdeal := fun m ρ _ => Cert.KernelIdeal.Gen.frame m ρ

/-- So does the reference at the ideal values: it has no semaphores. -/
theorem frame_reference : Cert.quiescent_ReferenceIdeal := fun m ρ _ =>
  θ_run_mono (Cert.ReferenceIdeal.Read.run m ρ) fun r h =>
    ⟨fun c => (h c).2, Idealize.ShloMosaic.sem_eq_zero_of_no_sems (by decide) r.2⟩

/-- From the same arguments the reference's second result is the kernel's: both hold, at `(b, h)`, the first nearest code
of token `576 b + h`. -/
theorem out_eq_result (m : (ℓ : Loc Cert.KernelIdeal.nD Cert.KernelIdeal.τ Cert.KernelIdeal.sig) → Buf (Elt Ideal) ℓ)
    (c : Dev Cert.KernelIdeal.nD) :
    Cert.ReferenceIdeal.Read.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Result.result m c := by
  funext i
  obtain ⟨b, h, rfl⟩ : ∃ (b : Fin 16) (h : Fin 576), i = ix2 b h := ⟨i 0, i 1, by
    funext a; match a with
    | ⟨0, _⟩ => rfl
    | ⟨1, _⟩ => rfl⟩
  exact Cert.ReferenceIdeal.Read.out_apply _ _ b h

/-- At the ideal values, from the same arguments, the kernel and the reference both run and end with the same two
results: the first argument, and the first nearest code of each token. -/
theorem algebraic : Cert.algebraic_KernelIdeal_ReferenceIdeal := by
  intro m g m' g' _ hagree
  refine ⟨fun c => m ((c.tc : Thread Cert.KernelIdeal.nD Cert.KernelIdeal.τ).loc Cert.KernelIdeal.main_arg0),
    fun c => Cert.KernelIdeal.Result.result m c, ?_, ?_⟩
  · exact θ_run_mono (Cert.KernelIdeal.Result.run m g) fun r h c => ⟨(h c).2.1, (h c).1, (h c).2⟩
  · refine θ_run_mono (Cert.ReferenceIdeal.Read.run m' g') fun r h c => ⟨(h c).2.1.trans (hagree c).1, ?_, (h c).2⟩
    refine (h c).1.trans ?_
    rw [(hagree c).1, (hagree c).2]
    exact out_eq_result m c

/-- The five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
